-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S256x64x300x5 : Shape := ⟨4, ![256, 64, 300, 5]⟩
abbrev S16384x300x5 : Shape := ⟨3, ![16384, 300, 5]⟩
abbrev S16384x300x26 : Shape := ⟨3, ![16384, 300, 26]⟩
abbrev S8x300x5 : Shape := ⟨3, ![8, 300, 5]⟩
abbrev S8x300x26 : Shape := ⟨3, ![8, 300, 26]⟩
abbrev S8x300x1 : Shape := ⟨3, ![8, 300, 1]⟩
abbrev S256x64x300x26 : Shape := ⟨4, ![256, 64, 300, 26]⟩

abbrev nBuf : Space → Nat
  | .hbm => 4
  | .vmem => 4
  | .smem => 0
  | _ => 0

abbrev bufTy : (tb : Table) → Fin (tcTables nBuf tb) → BufTy
  | .hbm, ⟨0, _⟩ => ⟨S256x64x300x5, .f32⟩
  | .hbm, ⟨1, _⟩ => ⟨S16384x300x5, .f32⟩
  | .hbm, ⟨2, _⟩ => ⟨S16384x300x26, .f32⟩
  | .hbm, ⟨3, _⟩ => ⟨S256x64x300x26, .f32⟩
  | .local _ .vmem, ⟨0, _⟩ => ⟨S8x300x5, .f32⟩
  | .local _ .vmem, ⟨1, _⟩ => ⟨S8x300x5, .f32⟩
  | .local _ .vmem, ⟨2, _⟩ => ⟨S8x300x26, .f32⟩
  | .local _ .vmem, ⟨3, _⟩ => ⟨S8x300x26, .f32⟩
  | _, _ => ⟨S256x64x300x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2048], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x300x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x300x26 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S256x64x300x5 : Shape := ⟨4, ![256, 64, 300, 5]⟩
abbrev S26 : Shape := ⟨1, ![26]⟩
abbrev S_ : Shape := ⟨0, ![]⟩
abbrev S26x1 : Shape := ⟨2, ![26, 1]⟩
abbrev S1 : Shape := ⟨1, ![1]⟩
abbrev S1x1 : Shape := ⟨2, ![1, 1]⟩
abbrev S256x64x300x26 : Shape := ⟨4, ![256, 64, 300, 26]⟩

abbrev nBuf : Space → Nat
  | .hbm => 25
  | .vmem => 0
  | .smem => 0
  | _ => 0

abbrev bufTy : (tb : Table) → Fin (tcTables nBuf tb) → BufTy
  | .hbm, ⟨0, _⟩ => ⟨S256x64x300x5, .f32⟩
  | .hbm, ⟨1, _⟩ => ⟨S26, .i32⟩
  | .hbm, ⟨2, _⟩ => ⟨S_, .i32⟩
  | .hbm, ⟨3, _⟩ => ⟨S26, .i32⟩
  | .hbm, ⟨4, _⟩ => ⟨S26, .i1⟩
  | .hbm, ⟨5, _⟩ => ⟨S_, .i32⟩
  | .hbm, ⟨6, _⟩ => ⟨S26, .i32⟩
  | .hbm, ⟨7, _⟩ => ⟨S26, .i32⟩
  | .hbm, ⟨8, _⟩ => ⟨S26, .i32⟩
  | .hbm, ⟨9, _⟩ => ⟨S26x1, .i32⟩
  | .hbm, ⟨10, _⟩ => ⟨S1, .i32⟩
  | .hbm, ⟨11, _⟩ => ⟨S_, .i32⟩
  | .hbm, ⟨12, _⟩ => ⟨S26x1, .i32⟩
  | .hbm, ⟨13, _⟩ => ⟨S26x1, .i1⟩
  | .hbm, ⟨14, _⟩ => ⟨S1x1, .i32⟩
  | .hbm, ⟨15, _⟩ => ⟨S26x1, .i32⟩
  | .hbm, ⟨16, _⟩ => ⟨S26x1, .i1⟩
  | .hbm, ⟨17, _⟩ => ⟨S26x1, .i1⟩
  | .hbm, ⟨18, _⟩ => ⟨S_, .i1⟩
  | .hbm, ⟨19, _⟩ => ⟨S26, .i1⟩
  | .hbm, ⟨20, _⟩ => ⟨S256x64x300x26, .f32⟩
  | .hbm, ⟨21, _⟩ => ⟨S256x64x300x26, .i1⟩
  | .hbm, ⟨22, _⟩ => ⟨S_, .f32⟩
  | .hbm, ⟨23, _⟩ => ⟨S256x64x300x26, .f32⟩
  | .hbm, ⟨24, _⟩ => ⟨S256x64x300x26, .f32⟩
  | _, _ => ⟨S256x64x300x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Joints.lean ====
/-
  The gather of body-part channels to joints, as index functions, and the mathematics that no program is named in:
  what a concatenation of one-channel slices holds, and what the gather of a flattened array is after the
  flattening is undone.
-/
module

public import Idealize.ShloMosaic.Lib.ValueIdx
public import Idealize.ShloMosaic.Lib.Pipeline.Value

@[expose] public section

noncomputable section

namespace Cert.Joints

open Idealize.ShloMosaic Idealize.ShloMosaic.ValueIdx

variable {α : Type}

/-- The body part that each of the 26 joints copies. -/
def part : Fin 26 → Fin 5 :=
  ![0, 0, 0, 0, 1, 1, 1, 2, 2, 2, 2, 2, 2, 2, 3, 3, 3, 3, 3, 3, 4, 4, 4, 4, 4, 4]

/-- The joints of an array `[N, C, T, part]`: element `(n, c, t, j)` of the result is element `(n, c, t, part j)`. -/
def joints {N C T : Nat} (x : (⟨4, ![N, C, T, 5]⟩ : Shape).Idx → α) : (⟨4, ![N, C, T, 26]⟩ : Shape).Idx → α :=
  fun y => x (ix4 (y 0 : Fin N) (y 1 : Fin C) (y 2 : Fin T) (part (y 3)))

/-- The same of an array `[B, T, part]`, whose leading axes are flattened into one. -/
def joints3 {B T : Nat} (x : (⟨3, ![B, T, 5]⟩ : Shape).Idx → α) : (⟨3, ![B, T, 26]⟩ : Shape).Idx → α :=
  fun y => x (ix3 (y 0 : Fin B) (y 1 : Fin T) (part (y 2)))

/-- Side by side on the last axis, the 26 slices of one channel each that `part` selects ARE the joints of the block. -/
theorem concatenate_slices {B T : Nat} (x : (⟨3, ![B, T, 5]⟩ : Shape).Idx → α)
    (hs : ∀ j : Fin 26, (⟨3, ![B, T, 5]⟩ : Shape).Slices ![0, 0, (part j).val] ⟨3, ![B, T, 1]⟩)
    (h : Shape.Concatenates ((List.ofFn fun j : Fin 26 => (⟨⟨3, ![B, T, 1]⟩,
      extractStridedSlice ⟨3, ![B, T, 1]⟩ ![0, 0, (part j).val] x (hs j)⟩ : (s : Shape) × (s.Idx → α))).map (·.1))
      ⟨3, ![B, T, 26]⟩ 2) :
    concatenate ⟨3, ![B, T, 26]⟩ 2 (List.ofFn fun j : Fin 26 => (⟨⟨3, ![B, T, 1]⟩,
      extractStridedSlice ⟨3, ![B, T, 1]⟩ ![0, 0, (part j).val] x (hs j)⟩ : (s : Shape) × (s.Idx → α))) h = joints3 x := by
  funext y
  rw [concatenate_ofFn_unit_apply (t := ⟨3, ![B, T, 26]⟩) (s₁ := ⟨3, ![B, T, 1]⟩) (2 : Fin 3) (fun j : Fin 26 => extractStridedSlice ⟨3, ![B, T, 1]⟩ ![0, 0, (part j).val] x (hs j))
    h rfl rfl y (y (2 : Fin 3)) rfl (ix3 (y 0 : Fin B) (y 1 : Fin T) (0 : Fin 1)) ?_]
  · refine congrArg x (funext fun a => Fin.ext ?_)
    match a with
    | ⟨0, _⟩ => exact Nat.zero_add _
    | ⟨1, _⟩ => exact Nat.zero_add _
    | ⟨2, _⟩ => exact Nat.add_zero _
  · intro b hb
    match b with
    | ⟨0, _⟩ => rfl
    | ⟨1, _⟩ => rfl
    | ⟨2, _⟩ => exact absurd rfl hb

/-- Flattening the two leading axes, taking the joints and undoing the flattening is taking the joints. -/
theorem unflatten_joints3 {N C T : Nat} (x : (⟨4, ![N, C, T, 5]⟩ : Shape).Idx → α)
    (h : (⟨4, ![N, C, T, 5]⟩ : Shape).ShapeCasts ⟨3, ![N * C, T, 5]⟩)
    (h' : (⟨3, ![N * C, T, 26]⟩ : Shape).ShapeCasts ⟨4, ![N, C, T, 26]⟩) :
    shapeCast ⟨4, ![N, C, T, 26]⟩ (joints3 (shapeCast ⟨3, ![N * C, T, 5]⟩ x h)) h' = joints x := by
  funext y
  have h0 : (y 0).val < N := (y 0).isLt
  have h1 : (y 1).val < C := (y 1).isLt
  have hb : (y 0).val * C + (y 1).val < N * C := by
    have := Nat.mul_le_mul_right C (Nat.succ_le_of_lt h0)
    rw [Nat.succ_mul] at this
    omega
  rw [shapeCast_apply _ h' y (ix3 ⟨(y 0).val * C + (y 1).val, hb⟩ (y 2 : Fin T) (y 3 : Fin 26)) (by
    rw [Shape.rowMajor_val_three, Shape.rowMajor_val_four]; rfl)]
  exact shapeCast_apply x h _ (ix4 (y 0 : Fin N) (y 1 : Fin C) (y 2 : Fin T) (part (y 3))) (by
    rw [Shape.rowMajor_val_three, Shape.rowMajor_val_four]; rfl)

end Cert.Joints

end
-- ==== Proof.Take.lean ====
/-
  What the reference computes: `jnp.take` along the last axis, which wraps a negative index, gathers at the clamped
  index and fills where the index is out of range, is `Joints.joints`, since every entry of the table lies in range.
-/
module

public import proofs.«01_k».proof.Proof.Joints
public import proofs.«01_k».proof.Proof.Gen.ReferenceIdeal.Run
public import proofs.«01_k».proof.Proof.Gen.Reference.Run
public import Idealize.ShloMosaic.Lib.ReduceAll

@[expose] public section

noncomputable section

namespace Cert.Joints

open Idealize.ShloMosaic Idealize.ShloMosaic.ValueIdx Idealize.SL.Sem

/-- Gathering whole slices of the last axis of `x : [N, C, T, 5]`, by 26 indices that are the entries of `part`, reads the
    joints of `x`. -/
theorem gather_part {α : Type} {N C T : Nat}
    (wf : GatherDims.WF ⟨4, ![N, C, T, 5]⟩ ⟨2, ![26, 1]⟩ ⟨4, ![N, C, T, 26]⟩ [0, 1, 2] [3] [] [3] [] 1 ![N, C, T, 1])
    (x : (⟨4, ![N, C, T, 5]⟩ : Shape).Idx → α) (idx : IVec ⟨2, ![26, 1]⟩ 32)
    (hidx : ∀ j : Fin 26, (idx (ix2 j (0 : Fin 1))).toInt.toNat = (part j).val) :
    Host.gather (⟨[0, 1, 2], [3], [], [], [3], 1, ![N, C, T, 1], wf⟩ : GatherDims ⟨4, ![N, C, T, 5]⟩ ⟨2, ![26, 1]⟩ ⟨4, ![N, C, T, 26]⟩)
      x idx = joints x := by
  funext y
  unfold Host.gather
  refine congrArg x (funext fun a => Fin.ext ?_)
  generalize hd : (⟨[0, 1, 2], [3], [], [], [3], 1, ![N, C, T, 1], wf⟩ :
    GatherDims ⟨4, ![N, C, T, 5]⟩ ⟨2, ![26, 1]⟩ ⟨4, ![N, C, T, 26]⟩) = d
  show d.start y idx a + d.batchCoord y a + d.offCoord y a = _
  have hb : d.batchCoord y a = 0 := by subst hd; exact GatherDims.batchCoord_eq_zero _ _ _ List.not_mem_nil
  rw [hb, Nat.add_zero]
  subst hd
  match a with
  | ⟨0, _⟩ => exact Nat.zero_add _
  | ⟨1, _⟩ => exact Nat.zero_add _
  | ⟨2, _⟩ => exact Nat.zero_add _
  | ⟨3, _⟩ =>
    have e : min (idx (ix2 (y 3 : Fin 26) (0 : Fin 1))).toInt.toNat 4 = (part (y 3)).val := by
      have e := hidx (y 3)
      have hlt := (part (y 3)).isLt
      omega
    refine Eq.trans (congrArg (fun k => min (idx k).toInt.toNat 4) (funext fun b => ?_)) e
    match b with
    | ⟨0, _⟩ => rfl
    | ⟨1, _⟩ => rfl

/-- `jnp.take` as it is printed — where the index is in range the gathered element, elsewhere a fill — when every index
    is in range: nothing is filled. -/
theorem take_part {α : Type} {N C T : Nat}
    (wf : GatherDims.WF ⟨4, ![N, C, T, 5]⟩ ⟨2, ![26, 1]⟩ ⟨4, ![N, C, T, 26]⟩ [0, 1, 2] [3] [] [3] [] 1 ![N, C, T, 1])
    (hb : (⟨1, ![26]⟩ : Shape).BroadcastsInDim ⟨4, ![N, C, T, 26]⟩ (![3] : Fin 1 → Fin 4))
    (x : (⟨4, ![N, C, T, 5]⟩ : Shape).Idx → α) (fill : (⟨4, ![N, C, T, 26]⟩ : Shape).Idx → α)
    (ok : IVec ⟨1, ![26]⟩ 1) (hok : ∀ j, ok j = 1#1) (idx : IVec ⟨2, ![26, 1]⟩ 32)
    (hidx : ∀ j : Fin 26, (idx (ix2 j (0 : Fin 1))).toInt.toNat = (part j).val) :
    select (broadcastInDim ⟨4, ![N, C, T, 26]⟩ ![3] hb ok)
      (Host.gather (⟨[0, 1, 2], [3], [], [], [3], 1, ![N, C, T, 1], wf⟩ : GatherDims ⟨4, ![N, C, T, 5]⟩ ⟨2, ![26, 1]⟩ ⟨4, ![N, C, T, 26]⟩)
        x idx) fill = joints x := by
  rw [gather_part wf x idx hidx]
  funext y
  exact if_pos (hok _)

end Cert.Joints

namespace Cert.ReferenceIdeal.Joints

open Idealize.ShloMosaic Idealize.ShloMosaic.ValueIdx Idealize.ShloMosaic.TcCoe Idealize.SL.Sem
open Cert.ReferenceIdeal Cert.ReferenceIdeal.Gen Cert.Joints

variable {F : FTy → Type} [FloatOps F]

/-- The reference ends with the joints of its argument, which is unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v0) = joints (N := 256) (C := 64) (T := 300) (m ((c : Thread nD τ).loc main_arg0))
      ∧ r.2.mem ((c : Thread nD τ).loc main_arg0) = m ((c : Thread nD τ).loc main_arg0) := by
  refine (θ_run defs _ _).mono (fun _ h c => ⟨(h c).1.trans ?_, (h c).2⟩) (Value.run m ρ)
  refine take_part _ _ _ _ _ (fun j => Host.reduce_andi_one _ _ _ _ _ rfl fun i => ?_) _ ?_
  · rw [eq_ix2 i]
    generalize (i 0 : Fin 26) = j
    generalize (i 1 : Fin 1) = k
    revert j k
    decide +kernel
  · decide +kernel

end Cert.ReferenceIdeal.Joints

end
-- ==== Proof.Expand.lean ====
/-
  What the kernel computes: one block, then the array that the pipeline writes, then the reshaped result.
-/
module

public import proofs.«01_k».proof.Proof.Joints
public import proofs.«01_k».proof.Proof.Gen.KernelIdeal.Frame
public import Idealize.ShloMosaic.Lib.Pipeline.ValueKit
public import Idealize.ShloMosaic.Lib.Pipeline.Covers

@[expose] public section

noncomputable section

namespace Cert.KernelIdeal.Joints

open Idealize.ShloMosaic Idealize.ShloMosaic.ValueIdx Idealize.ShloMosaic.TcCoe Idealize.SL.Sem
open Idealize.ShloMosaic.Pipeline (Dat)
open Cert.KernelIdeal Cert.KernelIdeal.Gen Cert.Joints

variable {F : FTy → Type} [FloatOps F]

/-- One block: the payload of the body's store is the joints of the block that it loaded. -/
theorem payload (v : Vec F S8x300x5 .f32) : k0_pay1 v = joints3 (B := 8) (T := 300) v := by
  have e : k0_pay1 v = concatenate ⟨3, ![8, 300, 26]⟩ 2 (List.ofFn fun j : Fin 26 => (⟨⟨3, ![8, 300, 1]⟩,
      extractStridedSlice ⟨3, ![8, 300, 1]⟩ ![0, 0, (part j).val] (shapeCast S8x300x5 v shapeCasts_S8x300x5_S8x300x5)
        (by revert j; decide)⟩ : (s : Shape) × (s.Idx → _))) concatenates_S8x300x1_S8x300x1_S8x300x1_S8x300x1_S8x300x1_S8x300x1_S8x300x1_S8x300x1_S8x300x1_S8x300x1_S8x300x1_S8x300x1_S8x300x1_S8x300x1_S8x300x1_S8x300x1_S8x300x1_S8x300x1_S8x300x1_S8x300x1_S8x300x1_S8x300x1_S8x300x1_S8x300x1_S8x300x1_S8x300x1_S8x300x26_d2 := rfl
  exact e.trans ((concatenate_slices _ _ _).trans (congrArg joints3 (shapeCast_self v _)))

variable (m : (ℓ : Loc nD τ sig) → Buf (Elt F) ℓ) (ρ : Dev nD → PrngReg)

/-- The region finds the argument with its two leading axes flattened into one. -/
theorem V_main_v0 (c : Dev nD) : V m c main_v0
    = shapeCast S16384x300x5 (m ((c : Thread nD τ).loc main_arg0)) shapeCasts_S256x64x300x5_S16384x300x5 :=
  by
  unfold V V0
  rw [show ([hostOps0].flatten : List (HloOp τ sig (Elt F))) = hostOps0 from rfl, StableHlo.after_cons, StableHlo.after_nil,
    StableHlo.reshape_result]
  rfl

/-- The array after the run: the blocks of 8 rows cover it, and each is the joints of the same 8 rows of the argument. -/
theorem final_v1 (c : Dev nD) : (dats m 0 c).arrAt 1 cfg0.N = joints3 (B := 16384) (T := 300) (V m c main_v0) := by
  refine (dats m 0 c).arrAt_eq_of_covers 1 _ (by decide +kernel) fun t hf y => ?_
  blk_simp
  rw [after0_1]
  frame_out
  rw [payload]
  unfold iblk joints3
  blk_simp
  have e₀ : ∀ t : Fin cfg0.N, win0_0.index t = win0_1.index t := (by decide +kernel : ∀ t : Fin grid0.N, _)
  have e₁ : ∀ t : Fin cfg0.N, win0_1.index t = ![t.val, 0, 0] := (by decide +kernel : ∀ t : Fin grid0.N, _)
  have h0 : ((win0_1.blk t).view.emb y 0).val = t.val * 8 + (y 0).val := by blk_simp [e₁]
  have h1 : ((win0_1.blk t).view.emb y 1).val = (y 1).val := by blk_simp [e₁]
  have h2 : (win0_1.blk t).view.emb y 2 = y 2 := Fin.ext (by blk_simp [e₁])
  refine congrArg (V m c main_v0) (funext fun a => Fin.ext ?_)
  rw [h2]
  match a with
  | 0 => exact Eq.trans (by blk_simp [e₀, e₁]; rfl) h0.symm
  | 1 => exact Eq.trans (by blk_simp [e₀, e₁]; rfl) h1.symm
  | 2 => blk_simp [e₀, e₁]; rfl

/-- The flattened joints of the flattened argument, unflattened, are the joints of the argument. -/
theorem tail_v2 (c : Dev nD) : Pipeline.afterTail₀ cfgs (dats m) 0 (V0 m) [hostOps1] c main_v2
    = joints (N := 256) (C := 64) (T := 300) (m ((c : Thread nD τ).loc main_arg0)) := by
  have e : Pipeline.afterTail₀ cfgs (dats m) 0 (V0 m) [hostOps1] c main_v2
      = shapeCast S256x64x300x26 ((dats m 0 c).arrAt 1 cfg0.N) shapeCasts_S16384x300x26_S256x64x300x26 := by
    unfold Pipeline.afterTail₀
    rw [show ([hostOps1].flatten : List (HloOp τ sig (Elt F))) = hostOps1 from rfl, StableHlo.after_cons, StableHlo.after_nil,
      StableHlo.reshape_result]
    exact congrArg (fun x => shapeCast S256x64x300x26 x shapeCasts_S16384x300x26_S256x64x300x26)
      (Pipeline.withArrays_arr _ launch0.win.arr_inj c (V0 m c) _ 1)
  rw [e, final_v1, V_main_v0]
  exact unflatten_joints3 _ _ _

/-- Every run of the kernel ends with the joints of the argument as the result, and with the argument unchanged. -/
theorem run : θ_run defs (onTc (τ := τ) (main (F := F))) ⟨m, fun _ => 0, ρ⟩ (fun r => ∀ c : Dev nD,
    r.2.mem ((c.tc : Thread nD τ).loc main_v2) = joints (N := 256) (C := 64) (T := 300) (m ((c.tc : Thread nD τ).loc main_arg0))
    ∧ r.2.mem ((c.tc : Thread nD τ).loc main_arg0) = m ((c.tc : Thread nD τ).loc main_arg0)) :=
  (θ_run defs _ _).mono (fun _ h c =>
    ⟨(h.rest_eq c main_v2 (Pipeline.mem_restRefs_of main_v2 (by decide) (by decide))).trans (tail_v2 m c),
      (h.rest_eq c main_arg0 (Pipeline.mem_restRefs_of main_arg0 (by decide) (by decide))).trans (W_main_arg0 m (dats m) c)⟩)
    (run_main m ρ)

end Cert.KernelIdeal.Joints

end
-- ==== Proof.Plain.lean ====
/-
  The kernel and the reference as printed have the same text as the ones printed for the ideal floats, and the runs of
  those were stated over any floats: so they are the runs of these too.
-/
module

public import proofs.«01_k».proof.Proof.Take
public import proofs.«01_k».proof.Proof.Expand
public import proofs.«01_k».proof.Proof.Gen.Kernel

@[expose] public section

noncomputable section

open Idealize.ShloMosaic Idealize.ShloMosaic.TcCoe Idealize.SL.Sem

namespace Cert.Kernel.Joints

open Cert.Kernel Cert.Kernel.Gen Cert.Joints

variable {F : FTy → Type} [FloatOps F]

/-- The two printings' kernel bodies are one body. -/
theorem bodies_eq : (defs₀ : Defs nD τ sig (Elt F) Λ₀) = Cert.KernelIdeal.defs₀ :=
  congrArg (Defs.onTc (Λ := Λ₀)) (funext fun ℓ => funext fun a => match ℓ, a with
    | 0, (_, _) => rfl)

/-- The two printings' programs call the same bodies. -/
theorem defs_eq : (defs : Defs nD τ sig (Elt F) (Pipeline.Sig Λ₀ (Fin 1) fun p => (pcfgs (F := F) p).Adm)) = Cert.KernelIdeal.defs :=
  congrArg (Pipeline.defs pcfgs) bodies_eq

/-- Every run of the kernel as printed ends with the joints of the argument as the result, and with the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = joints (N := 256) (C := 64) (T := 300) (m ((c.tc : Thread nD τ).loc main_arg0))
      ∧ r.2.mem ((c.tc : Thread nD τ).loc main_arg0) = m ((c.tc : Thread nD τ).loc main_arg0) := by
  rw [defs_eq]
  exact Cert.KernelIdeal.Joints.run m ρ

end Cert.Kernel.Joints

namespace Cert.Reference.Joints

open Cert.Reference Cert.Reference.Gen Cert.Joints

variable {F : FTy → Type} [FloatOps F]

/-- Every run of the reference as printed ends with the joints of its argument, which is unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = joints (N := 256) (C := 64) (T := 300) (m ((c.tc : Thread nD τ).loc main_arg0))
      ∧ r.2.mem ((c.tc : Thread nD τ).loc main_arg0) = m ((c.tc : Thread nD τ).loc main_arg0) :=
  Cert.ReferenceIdeal.Joints.run m ρ

end Cert.Reference.Joints

end
-- ==== Proof.lean ====
/-
  The proof of `Cert.Claim`: the kernel and the reference both end with the joints of the argument, read bit for bit
  and at exact floats.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Plain
public import Idealize.ShloMosaic.Lib.Quiescent
public import Idealize.ShloMosaic.Adequacy
public import Idealize.ShloMosaic.Init

@[expose] public section

noncomputable section

namespace Cert.Proof

open Idealize.ShloMosaic Idealize.SL.Sem Cert.Joints

/-- The kernel and the reference run, leave their argument as it was and every counter at zero; the kernel read at exact
    floats is the kernel's own text; and the kernel's result is the reference's, at exact floats and bit for bit. -/
theorem claim : Cert.Claim := by
  refine ⟨Cert.Kernel.Gen.facts, Cert.KernelIdeal.Gen.facts, Cert.ReferenceIdeal.Gen.facts, Cert.Reference.Gen.facts,
    fun m ρ _ => Cert.Kernel.Gen.frame m ρ, fun m ρ _ => Cert.KernelIdeal.Gen.frame m ρ, fun m ρ _ => ?_, fun m ρ _ => ?_,
    trivial, fun m ρ m' ρ' _ hagree => ?_, fun m ρ m' ρ' _ hagree => ?_⟩
  · exact (θ_run _ _ _).mono (fun r h => ⟨fun c => (h c).2, sem_eq_zero_of_no_sems (by decide) r.2⟩)
      (Cert.ReferenceIdeal.Joints.run m ρ)
  · exact (θ_run _ _ _).mono (fun r h => ⟨fun c => (h c).2, sem_eq_zero_of_no_sems (by decide) r.2⟩)
      (Cert.Reference.Joints.run m ρ)
  · refine ⟨fun c => joints (N := 256) (C := 64) (T := 300) (m ((c.tc : Thread Cert.KernelIdeal.nD Cert.KernelIdeal.τ).loc Cert.KernelIdeal.main_arg0)),
      Cert.KernelIdeal.Joints.run m ρ, ?_⟩
    exact (θ_run _ _ _).mono (fun r h c => ⟨(h c).1.trans (congrArg joints (hagree c)), (h c).2⟩)
      (Cert.ReferenceIdeal.Joints.run m' ρ')
  · refine ⟨fun c => joints (N := 256) (C := 64) (T := 300) (m ((c.tc : Thread Cert.Kernel.nD Cert.Kernel.τ).loc Cert.Kernel.main_arg0)),
      Cert.Kernel.Joints.run m ρ, ?_⟩
    exact (θ_run _ _ _).mono (fun r h c => ⟨(h c).1.trans (congrArg joints (hagree c)), (h c).2⟩)
      (Cert.Reference.Joints.run m' ρ')

end Cert.Proof

end
